-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x2048 : Shape := ⟨2, ![32768, 2048]⟩
abbrev S512x2048 : Shape := ⟨2, ![512, 2048]⟩
abbrev S512x2047 : Shape := ⟨2, ![512, 2047]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32768x2048 : Shape := ⟨2, ![32768, 2048]⟩
abbrev S33554432x2 : Shape := ⟨2, ![33554432, 2]⟩
abbrev S33554432x1 : Shape := ⟨2, ![33554432, 1]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S33554432x2, .f32⟩
  | .hbm, ⟨2, _⟩ => ⟨S33554432x1, .f32⟩
  | .hbm, ⟨3, _⟩ => ⟨S33554432x1, .f32⟩
  | .hbm, ⟨4, _⟩ => ⟨S33554432x1, .f32⟩
  | .hbm, ⟨5, _⟩ => ⟨S33554432x1, .f32⟩
  | .hbm, ⟨6, _⟩ => ⟨S33554432x2, .f32⟩
  | .hbm, ⟨7, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.GroupSort.lean ====
/-
  GROUPSORT ON PAIRS OF LANES, as mathematics over the extended reals: the lanes of a row of 2048 are taken two by two,
  (0, 1), (2, 3), …; the even lane of a pair receives the smaller of its two values and the odd lane the greater one.
  Stated for any number of rows, so that the same function names what a block of 512 rows and the whole array of 32768
  rows become.
-/
module

public import Idealize.ShloMosaic.PureOps.Ideal
public import Idealize.ShloMosaic.Lib.ValueIdx

@[expose] public section

noncomputable section

namespace Cert.GroupSort

open Idealize.ShloMosaic Idealize.ShloMosaic.ValueIdx

/-- The even lane of the pair that holds lane `p`. -/
def evenLane (p : Fin 2048) : Fin 2048 := ⟨p.val - p.val % 2, by omega⟩

/-- The odd lane of the pair that holds lane `p`. -/
def oddLane (p : Fin 2048) : Fin 2048 := ⟨p.val - p.val % 2 + 1, by omega⟩

/-- Each pair of lanes of each row put in order: its minimum at the even lane, its maximum at the odd lane. -/
def groupSort {n : Nat} (x : (⟨2, ![n, 2048]⟩ : Shape).Idx → Ideal .f32) (i : (⟨2, ![n, 2048]⟩ : Shape).Idx) : Ideal .f32 :=
  if (i 1).val % 2 = 0 then min (x (ix2 (i 0) (evenLane (i 1)))) (x (ix2 (i 0) (oddLane (i 1))))
  else max (x (ix2 (i 0) (evenLane (i 1)))) (x (ix2 (i 0) (oddLane (i 1))))

/-- GroupSort acts on each row by itself: where a map `e` of indices keeps the lane and sends rows to rows, sorting
    what is read through `e` is reading what is sorted. -/
theorem groupSort_comp {n k : Nat} (x : (⟨2, ![n, 2048]⟩ : Shape).Idx → Ideal .f32)
    (e : (⟨2, ![k, 2048]⟩ : Shape).Idx → (⟨2, ![n, 2048]⟩ : Shape).Idx) (row : Fin k → Fin n)
    (he : ∀ j, e j = ix2 (row (j 0)) (j 1)) (j : (⟨2, ![k, 2048]⟩ : Shape).Idx) :
    groupSort (fun y => x (e y)) j = groupSort x (e j) := by
  unfold groupSort
  simp only [he]
  rfl

/-- Two arrays of rows and lanes are equal if they are at every row and lane. -/
theorem ext_lanes {α : Type} {a b : Nat} {f g : (⟨2, ![a, b]⟩ : Shape).Idx → α}
    (h : ∀ (r : Fin a) (p : Fin b), f (ix2 r p) = g (ix2 r p)) : f = g := by
  funext i
  rw [eq_ix2 i]
  exact h (i 0) (i 1)

end Cert.GroupSort

end
-- ==== Proof.Block.lean ====
/-
  WHAT ONE GRID POINT COMPUTES: the value that the kernel's body stores, as a function of the block it loads, is GroupSort
  of that block. The body rotates the block by one lane either way, takes at each lane the neighbour in its pair, and
  selects the minimum at even lanes and the maximum at odd ones.
-/
module

public import proofs.«01_k».proof.Proof.GroupSort
public import proofs.«01_k».proof.Proof.Gen.KernelIdeal.Skeleton
public import Idealize.ShloMosaic.Lib.Pipeline.Value

@[expose] public section

noncomputable section

namespace Cert.GroupSort.Block

open Idealize.ShloMosaic Idealize.ShloMosaic.ValueIdx Cert.KernelIdeal Cert.KernelIdeal.Gen Cert.GroupSort

/-- The kernel's parity test of a lane number, done on words, is the parity of the number. -/
theorem parity (p : Nat) (hp : p < 2048) :
    IntOp.cmpi .eq (BitVec.ofNat 32 p &&& 1#32) 0#32 = if p % 2 = 0 then 1#1 else 0#1 := by
  have e : (BitVec.ofNat 32 p &&& 1#32 = 0#32) ↔ p % 2 = 0 := by
    rw [← BitVec.toNat_inj, BitVec.toNat_and, BitVec.toNat_ofNat, BitVec.toNat_ofNat, BitVec.toNat_ofNat,
      show (1 % 2 ^ 32 : Nat) = 1 from rfl, Nat.and_one_is_mod]
    omega
  by_cases h : p % 2 = 0
  · rw [if_pos h, e.2 h]; rfl
  · rw [if_neg h]
    have hne : (BitVec.ofNat 32 p &&& 1#32) ≠ 0#32 := fun h' => h (e.1 h')
    show BitVec.ofBool (BitVec.ofNat 32 p &&& 1#32 == 0#32) = 0#1
    rw [beq_false_of_ne hne]; rfl

variable (v : Vec Ideal S512x2048 .f32)

/-- The block rotated one lane to the left, as the body spells it: lanes 1 to 2047, then lane 0. -/
def left : FVec Ideal S512x2048 .f32 :=
  concatenate S512x2048 1
    [⟨S512x2047, extractStridedSlice S512x2047 ![0, 1] v slices_S512x2048_o0_1_S512x2047⟩,
      ⟨S512x1, extractStridedSlice S512x1 ![0, 0] v slices_S512x2048_o0_0_S512x1⟩]
    concatenates_S512x2047_S512x1_S512x2048_d1

/-- The block rotated one lane to the right: lane 2047, then lanes 0 to 2046. -/
def right : FVec Ideal S512x2048 .f32 :=
  concatenate S512x2048 1
    [⟨S512x1, extractStridedSlice S512x1 ![0, 2047] v slices_S512x2048_o0_2047_S512x1⟩,
      ⟨S512x2047, extractStridedSlice S512x2047 ![0, 0] v slices_S512x2048_o0_0_S512x2047⟩]
    concatenates_S512x1_S512x2047_S512x2048_d1

/-- At every lane but the last the left rotation reads the next lane. -/
theorem left_apply (r : Fin 512) (p q : Fin 2048) (hq : q.val = p.val + 1) : left v (ix2 r p) = v (ix2 r q) := by
  have hlt : p.val < 2047 := by omega
  unfold left
  rw [concatenate_pair_apply_left (s₁ := S512x2047) (s₂ := S512x1) 1 _ _ _ (ix2 r p) rfl (ix2 r ⟨p.val, hlt⟩ : S512x2047.Idx)
    (fun b => by match b with | ⟨0, _⟩ => rfl | ⟨1, _⟩ => rfl)]
  exact extractStridedSlice_apply _ _ _ _ _ fun a => by
    match a with
    | ⟨0, _⟩ => show r.val = 0 + r.val; omega
    | ⟨1, _⟩ => show q.val = 1 + p.val; omega

/-- At every lane but the first the right rotation reads the lane before. -/
theorem right_apply (r : Fin 512) (p q : Fin 2048) (hq : q.val + 1 = p.val) : right v (ix2 r p) = v (ix2 r q) := by
  have hlt : q.val < 2047 := by omega
  unfold right
  rw [concatenate_pair_apply_right (s₁ := S512x1) (s₂ := S512x2047) 1 _ _ _ (ix2 r p) rfl rfl (ix2 r ⟨q.val, hlt⟩ : S512x2047.Idx)
    (fun b hb => by match b, hb with | ⟨0, _⟩, _ => rfl | ⟨1, _⟩, hb => exact absurd rfl hb)
    (by show q.val + 1 = p.val; exact hq)]
  exact extractStridedSlice_apply _ _ _ _ _ fun a => by
    match a with
    | ⟨0, _⟩ => show r.val = 0 + r.val; omega
    | ⟨1, _⟩ => show q.val = 0 + q.val; omega

/-- The body's parity mask. -/
def mask : IVec S512x2048 1 :=
  cmpi .eq (andi (iota .tc S512x2048 32 [1] iota_S512x2048_d1_w32) (broadcast S512x2048 1#32)) (broadcast S512x2048 0#32)

/-- It is set at the even lanes. -/
theorem mask_apply (r : Fin 512) (p : Fin 2048) : mask (ix2 r p) = if p.val % 2 = 0 then 1#1 else 0#1 := by
  show IntOp.cmpi .eq (iota .tc S512x2048 32 [1] iota_S512x2048_d1_w32 (ix2 r p) &&& 1#32) 0#32 = _
  rw [iota_single_apply]
  exact parity p.val p.isLt

/-- What the body stores at lane `p` of row `r`. -/
theorem payload_apply (r : Fin 512) (p : Fin 2048) : k0_pay1 (F := Ideal) v (ix2 r p) = groupSort v (ix2 r p) := by
  show Scalar.select (mask (ix2 r p))
      (min (v (ix2 r p)) (Scalar.select (mask (ix2 r p)) (left v (ix2 r p)) (right v (ix2 r p))))
      (max (v (ix2 r p)) (Scalar.select (mask (ix2 r p)) (left v (ix2 r p)) (right v (ix2 r p))))
    = if p.val % 2 = 0 then min (v (ix2 r (evenLane p))) (v (ix2 r (oddLane p)))
      else max (v (ix2 r (evenLane p))) (v (ix2 r (oddLane p)))
  rw [mask_apply]
  by_cases h : p.val % 2 = 0
  · rw [if_pos h, if_pos h, select_one, select_one]
    have e : evenLane p = p := Fin.ext (by show p.val - p.val % 2 = p.val; omega)
    rw [e, left_apply v r p (oddLane p) (by show p.val - p.val % 2 + 1 = _; omega)]
  · rw [if_neg h, if_neg h, select_zero, select_zero]
    have e : oddLane p = p := Fin.ext (by show p.val - p.val % 2 + 1 = p.val; omega)
    rw [e, right_apply v r p (evenLane p) (by show p.val - p.val % 2 + 1 = _; omega), max_comm]

/-- THE BLOCK: what the body stores is GroupSort of what it loads. -/
theorem payload : k0_pay1 (F := Ideal) v = groupSort v :=
  ext_lanes (payload_apply v)

end Cert.GroupSort.Block

end
-- ==== Proof.Whole.lean ====
/-
  WHAT THE KERNEL'S RESULT ARRAY HOLDS: GroupSort of the argument array. Grid point `t` reads rows 512 t to 512 t + 511 in
  full and writes the same rows of the result; the 64 points cover all 32768 rows.
-/
module

public import proofs.«01_k».proof.Proof.Block
public import proofs.«01_k».proof.Proof.Gen.KernelIdeal.Value

@[expose] public section

noncomputable section

namespace Cert.GroupSort.Whole

open Idealize.ShloMosaic Idealize.ShloMosaic.TcCoe Idealize.SL.Sem Idealize.ShloMosaic.ValueIdx
open Idealize.ShloMosaic.Pipeline (Dat)
open Cert.KernelIdeal Cert.KernelIdeal.Gen Cert.GroupSort

variable (m : (ℓ : Loc nD τ sig) → Buf (Elt Ideal) ℓ) (ρ : Dev nD → PrngReg)

/-- The result window's block number at point `t`: row block `t`, lane block 0. -/
theorem index_row : ∀ t : Fin cfg0.N, win0_1.index t 0 = t.val :=
  (by decide +kernel : ∀ t : Fin grid0.N, win0_1.index t 0 = t.val)
theorem index_lane : ∀ t : Fin cfg0.N, win0_1.index t 1 = 0 :=
  (by decide +kernel : ∀ t : Fin grid0.N, win0_1.index t 1 = 0)

/-- Row `r` of point `t`'s block is this row of the array. -/
def rowOf (t : Fin cfg0.N) (r : Fin 512) : Fin 32768 :=
  ⟨t.val * 512 + r.val, by have h : t.val < 64 := t.isLt; have := r.isLt; omega⟩

/-- Where index `j` of point `t`'s block lies in the array: row 512 t + j₀, the same lane. -/
theorem emb_eq (t : Fin cfg0.N) (j : S512x2048.Idx) :
    ((cfg0.win 1).blk t).view.emb j = (ix2 (rowOf t (j 0)) (j 1) : S32768x2048.Idx) := by
  funext a
  match a with
  | ⟨0, _⟩ =>
    refine Fin.ext (Eq.trans (Pipeline.Window.rect_emb_val win0_1 t j 0) ?_)
    rw [index_row]; rfl
  | ⟨1, _⟩ =>
    refine Fin.ext (Eq.trans (Pipeline.Window.rect_emb_val win0_1 t j 1) ?_)
    rw [index_lane]; show 0 * 2048 + (j 1).val = (j 1).val; omega

theorem zero_off : (![0, 0] : Fin 2 → Nat) = fun _ => 0 := funext fun a => by fin_cases a <;> rfl

/-- What point `t` writes back is its block of GroupSort of the whole argument array. -/
theorem flushed_eq (c : Dev nD) (t : Fin cfg0.N) :
    (dats m 0 c).flushed 1 t
      = ((cfg0.win 1).blk t).view.read (Elt Ideal) (groupSort (m ((c : Thread nD τ).loc main_arg0))) := by
  rw [Value.flushed1]
  unfold out0_1
  rw [View.canon_unit_zero zero_off, View.ld_unit_zero zero_off, Block.payload]
  funext j
  exact groupSort_comp (m ((c : Thread nD τ).loc main_arg0)) ((cfg0.win 1).blk t).view.emb (rowOf t) (emb_eq t) j

/-- Every index of the result array lies in the block of the point that has its row. -/
theorem cover (i : S32768x2048.Idx) :
    ∃ t : Fin cfg0.N, (cfg0.win 1).flush t = true ∧ i ∈ ((cfg0.win 1).blk t).view.set := by
  have h0 : (i 0).val < 32768 := (i 0).isLt
  have hN : cfg0.N = 64 := by decide
  refine ⟨⟨(i 0).val / 512, by omega⟩, flush0_1 _, ?_⟩
  refine Finset.mem_map.2 ⟨(ix2 ⟨(i 0).val % 512, by omega⟩ (i 1) : S512x2048.Idx), Finset.mem_univ _, ?_⟩
  rw [emb_eq]
  conv_rhs => rw [eq_ix2 i]
  refine congrArg (fun r => (ix2 r (i 1) : S32768x2048.Idx)) (Fin.ext ?_)
  show (i 0).val / 512 * 512 + (i 0).val % 512 = (i 0).val
  omega

/-- THE RESULT ARRAY after the grid is GroupSort of the argument array. -/
theorem final (c : Dev nD) : (dats m 0 c).arrAt 1 cfg0.N = groupSort (m ((c : Thread nD τ).loc main_arg0)) :=
  (dats m 0 c).arrAt_eq_of_cover 1 (groupSort (m ((c : Thread nD τ).loc main_arg0))) (fun t _ => flushed_eq m c t) cover

/-- THE KERNEL'S RUN: it ends with the result array at GroupSort of the argument, the argument unchanged. -/
theorem run : θ_run defs (onTc (τ := τ) (main (F := Ideal))) ⟨m, fun _ => 0, ρ⟩ fun r => ∀ c : Dev nD,
      r.2.mem ((c : Thread nD τ).loc main_v0) = groupSort (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.GroupSort.Whole

end
-- ==== Proof.RefSide.lean ====
/-
  WHAT THE REFERENCE COMPUTES: its reshape to pairs, minimum, maximum, concatenation and reshape back are, index by index,
  GroupSort of its argument.
-/
module

public import proofs.«01_k».proof.Proof.GroupSort
public import proofs.«01_k».proof.Proof.Gen.ReferenceIdeal.Run
public import Idealize.ShloMosaic.Lib.Pipeline.Value

@[expose] public section

noncomputable section

namespace Cert.GroupSort.RefSide

open Idealize.ShloMosaic Idealize.ShloMosaic.TcCoe Idealize.SL.Sem Idealize.ShloMosaic.ValueIdx
open Cert.ReferenceIdeal Cert.ReferenceIdeal.Gen Cert.GroupSort

variable (x : Vec Ideal S32768x2048 .f32)

/-- The argument reshaped to one pair a row. -/
abbrev pairs : Vec Ideal S33554432x2 .f32 := shapeCast S33554432x2 x shapeCasts_S32768x2048_S33554432x2

/-- Entry `b` of pair `q` is the array's entry at flat position 2 q + b. -/
theorem pairs_apply (q : Fin 33554432) (b : Fin 2) (r : Fin 32768) (p : Fin 2048)
    (h : r.val * 2048 + p.val = q.val * 2 + b.val) : pairs x (ix2 q b) = x (ix2 r p) :=
  shapeCast_apply x shapeCasts_S32768x2048_S33554432x2 (ix2 q b : S33554432x2.Idx) (ix2 r p : S32768x2048.Idx) (by
    rw [Shape.rowMajor_val_two, Shape.rowMajor_val_two]
    exact h)

/-- The pairs' first entries, as a column. -/
abbrev firsts : FVec Ideal S33554432x1 .f32 :=
  extractStridedSlice S33554432x1 ![0, 0] (pairs x) slices_S33554432x2_S33554432x1_0_0
/-- The pairs' second entries, as a column. -/
abbrev seconds : FVec Ideal S33554432x1 .f32 :=
  extractStridedSlice S33554432x1 ![0, 1] (pairs x) slices_S33554432x2_S33554432x1_0_1

theorem firsts_apply (q : Fin 33554432) (u : Fin 1) : firsts x (ix2 q u) = pairs x (ix2 q 0) :=
  extractStridedSlice_apply _ _ _ _ _ fun a => by
    match a with
    | ⟨0, _⟩ => show q.val = 0 + q.val; omega
    | ⟨1, _⟩ => show 0 = 0 + u.val; omega

theorem seconds_apply (q : Fin 33554432) (u : Fin 1) : seconds x (ix2 q u) = pairs x (ix2 q 1) :=
  extractStridedSlice_apply _ _ _ _ _ fun a => by
    match a with
    | ⟨0, _⟩ => show q.val = 0 + q.val; omega
    | ⟨1, _⟩ => show 1 = 1 + u.val; omega

/-- The pairs put in order: the column of minima beside the column of maxima. -/
abbrev ordered : FVec Ideal S33554432x2 .f32 :=
  concatenate S33554432x2 1 [⟨S33554432x1, minimumf (firsts x) (seconds x)⟩, ⟨S33554432x1, maximumf (firsts x) (seconds x)⟩]
    concatenates_S33554432x1_S33554432x1_S33554432x2_d1

/-- The first entry of an ordered pair is the pair's minimum, -/
theorem ordered_zero (q : Fin 33554432) : ordered x (ix2 q 0) = min (pairs x (ix2 q 0)) (pairs x (ix2 q 1)) := by
  refine (concatenate_pair_apply_left (s₁ := S33554432x1) (s₂ := S33554432x1) 1 _ _ _ (ix2 q 0 : S33554432x2.Idx) rfl (ix2 q 0 : S33554432x1.Idx)
    (fun b => by match b with | ⟨0, _⟩ => rfl | ⟨1, _⟩ => rfl)).trans ?_
  rw [minimumf_apply, firsts_apply, seconds_apply]

/-- and the second its maximum. -/
theorem ordered_one (q : Fin 33554432) : ordered x (ix2 q 1) = max (pairs x (ix2 q 0)) (pairs x (ix2 q 1)) := by
  refine (concatenate_pair_apply_right (s₁ := S33554432x1) (s₂ := S33554432x1) 1 _ _ _ (ix2 q 1 : S33554432x2.Idx) rfl rfl (ix2 q 0 : S33554432x1.Idx)
    (fun b hb => by match b, hb with | ⟨0, _⟩, _ => rfl | ⟨1, _⟩, hb => exact absurd rfl hb) rfl).trans ?_
  rw [maximumf_apply, firsts_apply, seconds_apply]

/-- The reference's whole term at lane `p` of row `r`: entry `p mod 2` of pair 1024 r + p / 2, whose two entries are the
    lanes of `p`'s pair. -/
theorem result_apply (r : Fin 32768) (p : Fin 2048) :
    shapeCast S32768x2048 (ordered x) shapeCasts_S33554432x2_S32768x2048 (ix2 r p : S32768x2048.Idx)
      = groupSort x (ix2 r p) := by
  have hr := r.isLt
  have hp := p.isLt
  let q : Fin 33554432 := ⟨r.val * 1024 + p.val / 2, by omega⟩
  have read (b : Fin 2) (hb : b.val = p.val % 2) :
      shapeCast S32768x2048 (ordered x) shapeCasts_S33554432x2_S32768x2048 (ix2 r p : S32768x2048.Idx) = ordered x (ix2 q b) :=
    shapeCast_apply (ordered x) shapeCasts_S33554432x2_S32768x2048 (ix2 r p : S32768x2048.Idx) (ix2 q b : S33554432x2.Idx) (by
      rw [Shape.rowMajor_val_two, Shape.rowMajor_val_two]
      show (r.val * 1024 + p.val / 2) * 2 + b.val = r.val * 2048 + p.val
      omega)
  have e0 : pairs x (ix2 q 0) = x (ix2 r (evenLane p)) := pairs_apply x q 0 r (evenLane p) (by
    show r.val * 2048 + (p.val - p.val % 2) = (r.val * 1024 + p.val / 2) * 2 + 0; omega)
  have e1 : pairs x (ix2 q 1) = x (ix2 r (oddLane p)) := pairs_apply x q 1 r (oddLane p) (by
    show r.val * 2048 + (p.val - p.val % 2 + 1) = (r.val * 1024 + p.val / 2) * 2 + 1; omega)
  show _ = if p.val % 2 = 0 then min (x (ix2 r (evenLane p))) (x (ix2 r (oddLane p)))
    else max (x (ix2 r (evenLane p))) (x (ix2 r (oddLane p)))
  by_cases h : p.val % 2 = 0
  · rw [if_pos h, read 0 (by show 0 = _; omega), ordered_zero, e0, e1]
  · rw [if_neg h, read 1 (by show 1 = _; omega), ordered_one, e0, e1]

/-- The reference's whole term is GroupSort of its argument. -/
theorem result : shapeCast S32768x2048 (ordered x) shapeCasts_S33554432x2_S32768x2048 = groupSort x :=
  ext_lanes (result_apply x)

/-- THE REFERENCE'S RUN: it ends with its result at GroupSort of its argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = groupSort (m ((c : Thread nD τ).loc main_arg0))
      ∧ r.2.mem ((c : Thread nD τ).loc main_arg0) = m ((c : Thread nD τ).loc main_arg0) :=
  (θ_run defs _ _).mono (fun _ h c => ⟨(h c).1.trans (result (m ((c : Thread nD τ).loc main_arg0))), (h c).2⟩)
    (Cert.ReferenceIdeal.Value.run m ρ)

end Cert.GroupSort.RefSide

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Whole
public import proofs.«01_k».proof.Proof.RefSide
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The reference runs, leaves its argument as it was, and has no semaphore that could end at another value than zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments, both results are GroupSort of the argument. -/
theorem algebraic : Cert.algebraic_KernelIdeal_ReferenceIdeal := by
  intro m ρ m' ρ' _ hagree
  refine ⟨fun c => Cert.GroupSort.groupSort (m ((c.tc : Thread Cert.KernelIdeal.nD Cert.KernelIdeal.τ).loc Cert.KernelIdeal.main_arg0)),
    Cert.GroupSort.Whole.run m ρ, ?_⟩
  refine (θ_run Cert.ReferenceIdeal.defs _ _).mono (fun _ h c => ⟨(h c).1.trans ?_, (h c).2⟩)
    (Cert.GroupSort.RefSide.run m' ρ')
  exact congrArg (Cert.GroupSort.groupSort (n := 32768)) (hagree c)

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
